-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_params : Cert.Pre_finite_params.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ preserves_Kernel_KernelIdeal
    ∧ algebraic_KernelIdeal_ReferenceIdeal_pre_finite_params (hKernelIdeal := hKernelIdeal) (hReferenceIdeal := hReferenceIdeal) (hPre_finite_params := hPre_finite_params)
-- ==== Pre_finite_params.lean ====
abbrev S4x8192 : Shape := ⟨2, ![4, 8192]⟩
abbrev S2x256 : Shape := ⟨2, ![2, 256]⟩
abbrev S256 : Shape := ⟨1, ![256]⟩
abbrev S256x768 : Shape := ⟨2, ![256, 768]⟩
abbrev S768 : Shape := ⟨1, ![768]⟩
abbrev S_ : Shape := ⟨0, ![]⟩

class Facts : Prop where
  bcast_S_S2x256 : S_.BroadcastsInDim S2x256 (![] : Fin 0 → Fin S2x256.rank)
  reducesTo_S2x256_S_d0_1 : S2x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : IVec S4x8192 32) (main_arg1 : IVec S4x8192 32) (main_arg2 : FVec F S2x256 .f32) (main_arg3 : FVec F S256 .f32) (main_arg4 : FVec F S256 .f32) (main_arg5 : FVec F S256 .f32) (main_arg6 : FVec F S256x768 .f32) (main_arg7 : FVec F S768 .f32) : IVec S_ 1 :=
  let main_v0 : FVec F S2x256 .f32 := Host.absf main_arg2
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_c : IVec S_ 1 := constantI S_ 1 1#1
  let main_v3 : IVec S_ 1 := (fun x v => Host.reduce IntOp.andi x v reducesTo_S2x256_S_d0_1 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S4x8192 : Shape := ⟨2, ![4, 8192]⟩
abbrev S2x256 : Shape := ⟨2, ![2, 256]⟩
abbrev S256 : Shape := ⟨1, ![256]⟩
abbrev S256x768 : Shape := ⟨2, ![256, 768]⟩
abbrev S768 : Shape := ⟨1, ![768]⟩
abbrev S8x1x4096 : Shape := ⟨3, ![8, 1, 4096]⟩
abbrev S32768x768 : Shape := ⟨2, ![32768, 768]⟩
abbrev S1x1x4096 : Shape := ⟨3, ![1, 1, 4096]⟩
abbrev S4096x768 : Shape := ⟨2, ![4096, 768]⟩
abbrev S1x256 : Shape := ⟨2, ![1, 256]⟩
abbrev S1 : Shape := ⟨1, ![1]⟩
abbrev S1x1 : Shape := ⟨2, ![1, 1]⟩
abbrev S4096 : Shape := ⟨1, ![4096]⟩
abbrev S4096x1 : Shape := ⟨2, ![4096, 1]⟩
abbrev S4096x256 : Shape := ⟨2, ![4096, 256]⟩
abbrev S1x768 : Shape := ⟨2, ![1, 768]⟩
abbrev S4x8192x768 : Shape := ⟨3, ![4, 8192, 768]⟩

abbrev nBuf : Space → Nat
  | .hbm => 12
  | .vmem => 12
  | .smem => 0
  | _ => 0

abbrev bufTy : (tb : Table) → Fin (tcTables nBuf tb) → BufTy
  | .hbm, ⟨0, _⟩ => ⟨S4x8192, .i32⟩
  | .hbm, ⟨1, _⟩ => ⟨S4x8192, .i32⟩
  | .hbm, ⟨2, _⟩ => ⟨S2x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x768, .f32⟩
  | .hbm, ⟨7, _⟩ => ⟨S768, .f32⟩
  | .hbm, ⟨8, _⟩ => ⟨S8x1x4096, .i32⟩
  | .hbm, ⟨9, _⟩ => ⟨S8x1x4096, .i32⟩
  | .hbm, ⟨10, _⟩ => ⟨S32768x768, .f32⟩
  | .hbm, ⟨11, _⟩ => ⟨S4x8192x768, .f32⟩
  | .local _ .vmem, ⟨0, _⟩ => ⟨S1x1x4096, .i32⟩
  | .local _ .vmem, ⟨1, _⟩ => ⟨S1x1x4096, .i32⟩
  | .local _ .vmem, ⟨2, _⟩ => ⟨S1x1x4096, .i32⟩
  | .local _ .vmem, ⟨3, _⟩ => ⟨S1x1x4096, .i32⟩
  | .local _ .vmem, ⟨4, _⟩ => ⟨S2x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x768, .f32⟩
  | .local _ .vmem, ⟨9, _⟩ => ⟨S768, .f32⟩
  | .local _ .vmem, ⟨10, _⟩ => ⟨S4096x768, .f32⟩
  | .local _ .vmem, ⟨11, _⟩ => ⟨S4096x768, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x8192 : Shape := ⟨2, ![4, 8192]⟩
abbrev S2x256 : Shape := ⟨2, ![2, 256]⟩
abbrev S256 : Shape := ⟨1, ![256]⟩
abbrev S256x768 : Shape := ⟨2, ![256, 768]⟩
abbrev S768 : Shape := ⟨1, ![768]⟩
abbrev S2 : Shape := ⟨1, ![2]⟩
abbrev S4x8192x1 : Shape := ⟨3, ![4, 8192, 1]⟩
abbrev S4x8192x2 : Shape := ⟨3, ![4, 8192, 2]⟩
abbrev S_ : Shape := ⟨0, ![]⟩
abbrev S1x1x2 : Shape := ⟨3, ![1, 1, 2]⟩
abbrev S4x8192x256 : Shape := ⟨3, ![4, 8192, 256]⟩
abbrev S1x1x256 : Shape := ⟨3, ![1, 1, 256]⟩
abbrev S4x8192x768 : Shape := ⟨3, ![4, 8192, 768]⟩
abbrev S1x1x768 : Shape := ⟨3, ![1, 1, 768]⟩

abbrev nBuf : Space → Nat
  | .hbm => 63
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S4x8192, .i32⟩
  | .hbm, ⟨2, _⟩ => ⟨S2x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x768, .f32⟩
  | .hbm, ⟨7, _⟩ => ⟨S768, .f32⟩
  | .hbm, ⟨8, _⟩ => ⟨S2, .f32⟩
  | .hbm, ⟨9, _⟩ => ⟨S2, .f32⟩
  | .hbm, ⟨10, _⟩ => ⟨S4x8192x1, .i32⟩
  | .hbm, ⟨11, _⟩ => ⟨S4x8192x1, .i32⟩
  | .hbm, ⟨12, _⟩ => ⟨S4x8192x2, .i32⟩
  | .hbm, ⟨13, _⟩ => ⟨S4x8192x2, .f32⟩
  | .hbm, ⟨14, _⟩ => ⟨S_, .f32⟩
  | .hbm, ⟨15, _⟩ => ⟨S2, .f32⟩
  | .hbm, ⟨16, _⟩ => ⟨S2, .f32⟩
  | .hbm, ⟨17, _⟩ => ⟨S1x1x2, .f32⟩
  | .hbm, ⟨18, _⟩ => ⟨S4x8192x2, .f32⟩
  | .hbm, ⟨19, _⟩ => ⟨S4x8192x2, .f32⟩
  | .hbm, ⟨20, _⟩ => ⟨S1x1x2, .f32⟩
  | .hbm, ⟨21, _⟩ => ⟨S4x8192x2, .f32⟩
  | .hbm, ⟨22, _⟩ => ⟨S4x8192x2, .f32⟩
  | .hbm, ⟨23, _⟩ => ⟨S4x8192x256, .f32⟩
  | .hbm, ⟨24, _⟩ => ⟨S1x1x256, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x256, .f32⟩
  | .hbm, ⟨34, _⟩ => ⟨S4x8192x256, .f32⟩
  | .hbm, ⟨35, _⟩ => ⟨S4x8192x256, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S1x1x256, .f32⟩
  | .hbm, ⟨51, _⟩ => ⟨S4x8192x256, .f32⟩
  | .hbm, ⟨52, _⟩ => ⟨S4x8192x256, .f32⟩
  | .hbm, ⟨53, _⟩ => ⟨S1x1x256, .f32⟩
  | .hbm, ⟨54, _⟩ => ⟨S4x8192x256, .f32⟩
  | .hbm, ⟨55, _⟩ => ⟨S4x8192x256, .f32⟩
  | .hbm, ⟨56, _⟩ => ⟨S_, .f32⟩
  | .hbm, ⟨57, _⟩ => ⟨S4x8192x256, .f32⟩
  | .hbm, ⟨58, _⟩ => ⟨S4x8192x256, .f32⟩
  | .hbm, ⟨59, _⟩ => ⟨S4x8192x768, .f32⟩
  | .hbm, ⟨60, _⟩ => ⟨S1x1x768, .f32⟩
  | .hbm, ⟨61, _⟩ => ⟨S4x8192x768, .f32⟩
  | .hbm, ⟨62, _⟩ => ⟨S4x8192x768, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.Hidden.lean ====
/-
  The hidden layer of one token, as two formulas over the extended reals: the one that the reference writes down (a
  product with two rows, a bias, a layer norm, a rectifier) and the one that the kernel evaluates (three centred
  vectors and their six mean products, taken once for all tokens). They agree wherever the first layer's weights, its
  bias and the scale of the layer norm are real numbers; the shift of the layer norm may be infinite.
-/
module

public import Idealize.ShloMosaic.PureOps.Ideal
public import Mathlib.Tactic.Ring
public import Mathlib.Tactic.FieldSimp
public import Mathlib.Tactic.Positivity
public import Mathlib.Tactic.NormNum

@[expose] public section

noncomputable section

namespace Cert.Hidden

open Idealize.ShloMosaic

/-- The f32 constant 256, the width of the hidden layer. -/
abbrev width : EReal := Ideal.ofBits FTy.f32 0x43800000#32
/-- The f32 constant 512, the extent of the coordinate grid. -/
abbrev extent : EReal := Ideal.ofBits FTy.f32 0x44000000#32
/-- The f32 constant 1/512. -/
abbrev step : EReal := Ideal.ofBits FTy.f32 0x3B000000#32
/-- The f32 constant 1/2. -/
abbrev half : EReal := Ideal.ofBits FTy.f32 0x3F000000#32
/-- The f32 constant 2. -/
abbrev two : EReal := Ideal.ofBits FTy.f32 0x40000000#32
/-- The f32 constant nearest to 0.00001, which the layer norm adds to the variance. -/
abbrev eps : EReal := Ideal.ofBits FTy.f32 0x3727C5AC#32

/-- The pattern of `width` denotes 256. -/
theorem width_eq : width = ((256 : ℝ) : EReal) := by
  simp [width, Ideal.ofBits, Ideal.ieee, -EReal.coe_mul]; norm_num
/-- The pattern of `extent` denotes 512. -/
theorem extent_eq : extent = ((512 : ℝ) : EReal) := by
  simp [extent, Ideal.ofBits, Ideal.ieee, -EReal.coe_mul]; norm_num
/-- The pattern of `step` denotes 1/512. -/
theorem step_eq : step = ((1 / 512 : ℝ) : EReal) := by
  simp [step, Ideal.ofBits, Ideal.ieee, -EReal.coe_mul]; norm_num
/-- The pattern of `half` denotes 1/2. -/
theorem half_eq : half = ((1 / 2 : ℝ) : EReal) := by
  simp [half, Ideal.ofBits, Ideal.ieee, -EReal.coe_mul]; norm_num
/-- The pattern of `two` denotes 2. -/
theorem two_eq : two = ((2 : ℝ) : EReal) := by
  simp [two, Ideal.ofBits, Ideal.ieee, -EReal.coe_mul]; norm_num
/-- The pattern of `eps` denotes a positive real number. -/
theorem eps_pos : ∃ r : ℝ, 0 < r ∧ eps = (r : EReal) := by
  refine ⟨_, ?_, by simp [eps, Ideal.ofBits, Ideal.ieee, -EReal.coe_mul]; rfl⟩
  norm_num

/-- A sum of real numbers is the same number when it is taken over the extended reals. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- Division by the width is division of real numbers. -/
theorem div_width (x : ℝ) : Ideal.div (x : EReal) width = ((x / 256 : ℝ) : EReal) := by
  rw [width_eq, Ideal.div_coe (by norm_num), ← EReal.coe_mul]; congr 1; ring

/-- A coordinate scaled to the kernel's range: `x / 512 - 1/2`, as the kernel takes it. -/
def scaled (w : BitVec 32) : EReal := FloatOps.sitofp (F := Ideal) FTy.f32 w * step - half

/-- A vector less its mean. -/
def centred (f : Fin 256 → EReal) (d : Fin 256) : EReal := f d - Ideal.div (∑ k, f k) width

/-- The mean of the products of two vectors. -/
def moment (f g : Fin 256 → EReal) : EReal := Ideal.div (∑ k, f k * g k) width

/-- The inverse root of the variance of a token's hidden vector, from the six mean products. -/
def invDev (u v : EReal) (a b c : Fin 256 → EReal) : EReal :=
  Ideal.rsqrt (u * u * moment (centred a) (centred a) + v * v * moment (centred b) (centred b)
    + moment (centred c) (centred c)
    + two * (u * v * moment (centred a) (centred b) + u * moment (centred a) (centred c)
      + v * moment (centred b) (centred c)) + eps)

/-- The kernel's hidden vector of the token with coordinates `x` and `y`. -/
def kernel (x y : BitVec 32) (a b c g s : Fin 256 → EReal) (d : Fin 256) : EReal :=
  max (scaled x * invDev (scaled x) (scaled y) a b c * (centred a d * g d)
    + scaled y * invDev (scaled x) (scaled y) a b c * (centred b d * g d)
    + invDev (scaled x) (scaled y) a b c * (centred c d * g d) + s d) 0

/-- A coordinate as the reference scales it: less half the extent, over the extent. -/
def placed (w : BitVec 32) : EReal :=
  Ideal.div (FloatOps.sitofp (F := Ideal) FTy.f32 w - extent * half) extent

/-- The reference's hidden vector before the layer norm. -/
def affine (x y : BitVec 32) (a b c : Fin 256 → EReal) (d : Fin 256) : EReal :=
  placed x * a d + placed y * b d + c d

/-- Layer norm and rectifier, as the reference writes them. -/
def normed (h g s : Fin 256 → EReal) (d : Fin 256) : EReal :=
  max (Ideal.div (centred h d) (Ideal.sqrt (moment (centred h) (centred h) + eps)) * g d + s d) 0

/-- The reference's hidden vector of the token with coordinates `x` and `y`. -/
def reference (x y : BitVec 32) (a b c g s : Fin 256 → EReal) (d : Fin 256) : EReal :=
  normed (affine x y a b c) g s d

/-- A real vector less its mean. -/
def centredR (f : Fin 256 → ℝ) (d : Fin 256) : ℝ := f d - (∑ k, f k) / 256

/-- Centring a vector of real numbers gives real numbers. -/
theorem centred_coe (f : Fin 256 → ℝ) : centred (fun k => (f k : EReal)) = fun k => (centredR f k : EReal) := by
  funext d
  unfold centred centredR
  rw [← coe_sum, div_width, ← EReal.coe_sub]

/-- The mean product of two vectors of real numbers is a real number. -/
theorem moment_coe (f g : Fin 256 → ℝ) :
    moment (fun k => (f k : EReal)) (fun k => (g k : EReal)) = (((∑ k, f k * g k) / 256 : ℝ) : EReal) := by
  unfold moment
  simp only [← EReal.coe_mul]
  rw [← coe_sum, div_width]

/-- The kernel's scaled coordinate is a real number. -/
theorem scaled_coe (w : BitVec 32) : scaled w = (((w.toInt : ℝ) / 512 - 1 / 2 : ℝ) : EReal) := by
  have h : FloatOps.sitofp (F := Ideal) FTy.f32 w = ((w.toInt : ℝ) : EReal) := rfl
  unfold scaled
  rw [h, step_eq, half_eq, ← EReal.coe_mul, ← EReal.coe_sub]; congr 1; ring

/-- Both programs scale a coordinate to the same number. -/
theorem placed_eq (w : BitVec 32) : placed w = scaled w := by
  have h : FloatOps.sitofp (F := Ideal) FTy.f32 w = ((w.toInt : ℝ) : EReal) := rfl
  rw [scaled_coe]
  unfold placed
  rw [h, extent_eq, half_eq, ← EReal.coe_mul, ← EReal.coe_sub, Ideal.div_coe (by norm_num), ← EReal.coe_mul]
  congr 1; ring

/-- Centring is linear: the centred hidden vector from the three centred vectors. -/
theorem centredR_affine (u v : ℝ) (a b c : Fin 256 → ℝ) (d : Fin 256) :
    centredR (fun k => u * a k + v * b k + c k) d = u * centredR a d + v * centredR b d + centredR c d := by
  unfold centredR
  rw [Finset.sum_add_distrib, Finset.sum_add_distrib, ← Finset.mul_sum, ← Finset.mul_sum]
  ring

/-- The mean square of a combination of three vectors, from their six mean products. -/
theorem meanSquare_affine (u v : ℝ) (a b c : Fin 256 → ℝ) :
    (∑ k, (u * a k + v * b k + c k) * (u * a k + v * b k + c k)) / 256
      = u * u * ((∑ k, a k * a k) / 256) + v * v * ((∑ k, b k * b k) / 256) + (∑ k, c k * c k) / 256
        + 2 * (u * v * ((∑ k, a k * b k) / 256) + u * ((∑ k, a k * c k) / 256) + v * ((∑ k, b k * c k) / 256)) := by
  have h : ∀ k, (u * a k + v * b k + c k) * (u * a k + v * b k + c k)
      = u * u * (a k * a k) + v * v * (b k * b k) + c k * c k
        + (2 * u * v * (a k * b k) + 2 * u * (a k * c k) + 2 * v * (b k * c k)) := fun k => by ring
  simp only [h, Finset.sum_add_distrib, ← Finset.mul_sum]
  ring

/-- One component after the layer norm: the inverse root times the combination of scaled components is the scaled
    quotient of the combination by the root. -/
theorem normed_combination (u v q r A B C G : ℝ) (s : EReal) (hq : 0 ≤ q) (hr : 0 < r) :
    max (u * Ideal.rsqrt ((q + r : ℝ) : EReal) * ((A * G : ℝ) : EReal)
        + v * Ideal.rsqrt ((q + r : ℝ) : EReal) * ((B * G : ℝ) : EReal)
        + Ideal.rsqrt ((q + r : ℝ) : EReal) * ((C * G : ℝ) : EReal) + s) 0
      = max (Ideal.div ((u * A + v * B + C : ℝ) : EReal) (Ideal.sqrt ((q + r : ℝ) : EReal)) * (G : EReal) + s) 0 := by
  have hqr : 0 < q + r := add_pos_of_nonneg_of_pos hq hr
  have hroot : Real.sqrt (q + r) ≠ 0 := (Real.sqrt_pos.mpr hqr).ne'
  rw [Ideal.rsqrt_coe, Ideal.sqrt_coe, if_neg hqr.le.not_gt, if_neg hqr.ne', if_neg hqr.le.not_gt, Ideal.div_coe hroot]
  simp only [← EReal.coe_mul, ← EReal.coe_add]
  congr 3
  ring

/-- The kernel's hidden vector and the reference's agree where weights, bias and scale are real numbers. -/
theorem kernel_eq_reference_coe (x y : BitVec 32) (a b c g : Fin 256 → ℝ) (s : Fin 256 → EReal) (d : Fin 256) :
    kernel x y (fun k => (a k : EReal)) (fun k => (b k : EReal)) (fun k => (c k : EReal)) (fun k => (g k : EReal)) s d
      = reference x y (fun k => (a k : EReal)) (fun k => (b k : EReal)) (fun k => (c k : EReal)) (fun k => (g k : EReal)) s d := by
  obtain ⟨r, hr, he⟩ := eps_pos
  obtain ⟨u, hu⟩ : ∃ u : ℝ, scaled x = (u : EReal) := ⟨_, scaled_coe x⟩
  obtain ⟨v, hv⟩ : ∃ v : ℝ, scaled y = (v : EReal) := ⟨_, scaled_coe y⟩
  have haff : affine x y (fun k => (a k : EReal)) (fun k => (b k : EReal)) (fun k => (c k : EReal))
      = fun k => ((u * a k + v * b k + c k : ℝ) : EReal) := by
    funext k
    simp only [affine, placed_eq, hu, hv, EReal.coe_add, EReal.coe_mul]
  have hsq : 0 ≤ (∑ k, (u * centredR a k + v * centredR b k + centredR c k)
      * (u * centredR a k + v * centredR b k + centredR c k)) / 256 :=
    div_nonneg (Finset.sum_nonneg fun k _ => mul_self_nonneg _) (by norm_num)
  unfold kernel reference normed invDev
  rw [haff, hu, hv, he, two_eq]
  simp only [centred_coe, moment_coe, centredR_affine]
  rw [meanSquare_affine] at hsq ⊢
  simp only [← EReal.coe_mul, ← EReal.coe_add]
  exact normed_combination u v _ r _ _ _ _ _ hsq hr

/-- A vector without infinities is a vector of real numbers. -/
theorem coe_of_finite (f : Fin 256 → EReal) (h : ∀ k, f k ≠ ⊤ ∧ f k ≠ ⊥) :
    f = fun k => (((f k).toReal : ℝ) : EReal) :=
  funext fun k => (EReal.coe_toReal (h k).1 (h k).2).symm

/-- The kernel's hidden vector and the reference's agree where weights, bias and scale hold no infinity. -/
theorem kernel_eq_reference (x y : BitVec 32) (a b c g s : Fin 256 → EReal) (d : Fin 256)
    (ha : ∀ k, a k ≠ ⊤ ∧ a k ≠ ⊥) (hb : ∀ k, b k ≠ ⊤ ∧ b k ≠ ⊥) (hc : ∀ k, c k ≠ ⊤ ∧ c k ≠ ⊥)
    (hg : ∀ k, g k ≠ ⊤ ∧ g k ≠ ⊥) : kernel x y a b c g s d = reference x y a b c g s d := by
  rw [coe_of_finite a ha, coe_of_finite b hb, coe_of_finite c hc, coe_of_finite g hg]
  exact kernel_eq_reference_coe x y _ _ _ _ s d

end Cert.Hidden

end
-- ==== Proof.Ref.lean ====
/-
  The reference's result read at an index: layer norm and rectifier of the token's affine image, against the second
  layer's column, and the bias.
-/
module

public import proofs.«01_k».proof.Proof.Gen.ReferenceIdeal.Run
public import proofs.«01_k».proof.Proof.Hidden
public import Idealize.ShloMosaic.PureOps.Ideal
public import Idealize.ShloMosaic.Lib.Pointwise
public import Idealize.ShloMosaic.Lib.Tactic.CleanTypes

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ)

/-- The reference's result at row `b`, token `l` of the row and output column `e`. -/
theorem result_apply (c : Dev nD) (b : Fin 4) (l : Fin 8192) (e : Fin 768) :
    Value.res_out0 m c (ix3 b l e)
      = (∑ d : Fin 256, Hidden.reference (m ((c.tc : Thread nD τ).loc main_arg0) (ix2 b l))
          (m ((c.tc : Thread nD τ).loc main_arg1) (ix2 b l))
          (fun k => m ((c.tc : Thread nD τ).loc main_arg2) (ix2 0 k))
          (fun k => m ((c.tc : Thread nD τ).loc main_arg2) (ix2 1 k))
          (fun k => m ((c.tc : Thread nD τ).loc main_arg3) (ix1 k))
          (fun k => m ((c.tc : Thread nD τ).loc main_arg4) (ix1 k))
          (fun k => m ((c.tc : Thread nD τ).loc main_arg5) (ix1 k)) d
          * m ((c.tc : Thread nD τ).loc main_arg6) (ix2 d e))
        + m ((c.tc : Thread nD τ).loc main_arg7) (ix1 e) := by
  unfold Value.res_out0 Value.res_main_v44
  clean_types
  pointwise
  simp only [Finset.univ_unique, Finset.sum_singleton]
  rfl

end Cert.ReferenceIdeal.Read

end
-- ==== Proof.Block.lean ====
/-
  What the kernel leaves in its result: one grid point's block at an index, the blocks put together into the flat
  array of 32768 tokens, and that array under the host's last reshape.
-/
module

public import proofs.«01_k».proof.Proof.Gen.KernelIdeal.Frame
public import proofs.«01_k».proof.Proof.Hidden
public import Idealize.ShloMosaic.PureOps.Ideal
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

/-- Row 0 of the first layer's weights, less its mean. -/
theorem centred_row0 (w : Vec Ideal S2x256 .f32) (d : Fin 256) :
    k0_pay1 w (ix1 d) = Hidden.centred (fun k => w (ix2 0 k)) d := by
  pointwise [k0_pay1]; rfl

/-- Row 1 of the first layer's weights, less its mean. -/
theorem centred_row1 (w : Vec Ideal S2x256 .f32) (d : Fin 256) :
    k0_pay2 w (ix1 d) = Hidden.centred (fun k => w (ix2 1 k)) d := by
  pointwise [k0_pay2]; rfl

/-- The first layer's bias, less its mean. -/
theorem centred_bias (b : Vec Ideal S256 .f32) (d : Fin 256) :
    k0_pay3 b (ix1 d) = Hidden.centred (fun k => b (ix1 k)) d := by
  pointwise [k0_pay3]; rfl

/-- The mean square of the centred row 0. -/
theorem moment_row0 (w : Vec Ideal S2x256 .f32) : k0_pay4 w
    = Hidden.moment (Hidden.centred fun k => w (ix2 0 k)) (Hidden.centred fun k => w (ix2 0 k)) := by
  pointwise [k0_pay4]; simp only [centred_row0]; rfl

/-- The mean square of the centred row 1. -/
theorem moment_row1 (w : Vec Ideal S2x256 .f32) : k0_pay5 w
    = Hidden.moment (Hidden.centred fun k => w (ix2 1 k)) (Hidden.centred fun k => w (ix2 1 k)) := by
  pointwise [k0_pay5]; simp only [centred_row1]; rfl

/-- The mean square of the centred bias. -/
theorem moment_bias (b : Vec Ideal S256 .f32) : Ideal.div (k0_pay6 b) (Ideal.ofBits FTy.f32 0x43800000#32)
    = Hidden.moment (Hidden.centred fun k => b (ix1 k)) (Hidden.centred fun k => b (ix1 k)) := by
  pointwise [k0_pay6]; simp only [centred_bias]; rfl

/-- The mean product of the two centred rows. -/
theorem moment_rows (w : Vec Ideal S2x256 .f32) : k0_pay8 (k0_pay1 w) (k0_pay2 w)
    = Hidden.moment (Hidden.centred fun k => w (ix2 0 k)) (Hidden.centred fun k => w (ix2 1 k)) := by
  pointwise [k0_pay8]; simp only [centred_row0, centred_row1]; rfl

/-- The mean product of the centred row 0 and the centred bias. -/
theorem moment_row0_bias (w : Vec Ideal S2x256 .f32) (b : Vec Ideal S256 .f32) : k0_pay9 (k0_pay1 w) (k0_pay3 b)
    = Hidden.moment (Hidden.centred fun k => w (ix2 0 k)) (Hidden.centred fun k => b (ix1 k)) := by
  pointwise [k0_pay9]; simp only [centred_row0, centred_bias]; rfl

/-- The mean product of the centred row 1 and the centred bias. -/
theorem moment_row1_bias (w : Vec Ideal S2x256 .f32) (b : Vec Ideal S256 .f32) : k0_pay10 (k0_pay2 w) (k0_pay3 b)
    = Hidden.moment (Hidden.centred fun k => w (ix2 1 k)) (Hidden.centred fun k => b (ix1 k)) := by
  pointwise [k0_pay10]; simp only [centred_row1, centred_bias]; rfl

/-- A token's result at one output column: its hidden vector against the second layer's column, and the bias. -/
def token (x y : BitVec 32) (w : Vec Ideal S2x256 .f32) (b g s : Vec Ideal S256 .f32) (w2 : Vec Ideal S256x768 .f32)
    (b2 : Vec Ideal S768 .f32) (e : Fin 768) : EReal :=
  (∑ d : Fin 256, Hidden.kernel x y (fun k => w (ix2 0 k)) (fun k => w (ix2 1 k)) (fun k => b (ix1 k))
    (fun k => g (ix1 k)) (fun k => s (ix1 k)) d * w2 (ix2 d e)) + b2 (ix1 e)

/-- The block that one grid point stores, at a token of the block and an output column. -/
theorem block_apply (x y : Vec Ideal S1x1x4096 .i32) (w : Vec Ideal S2x256 .f32) (b g s : Vec Ideal S256 .f32)
    (w2 : Vec Ideal S256x768 .f32) (b2 : Vec Ideal S768 .f32) (p : Fin 4096) (e : Fin 768) :
    k0_pay17 (k0_pay4 w) (k0_pay5 w) (k0_pay7 (k0_pay6 b) (FloatOps.ofBits FTy.f32 0x43800000#32))
      (k0_pay8 (k0_pay1 w) (k0_pay2 w)) (k0_pay9 (k0_pay1 w) (k0_pay3 b)) (k0_pay10 (k0_pay2 w) (k0_pay3 b))
      (k0_pay11 (k0_pay1 w) g) (k0_pay12 (k0_pay2 w) g) (k0_pay13 (k0_pay3 b) g) (k0_pay14 s) (k0_pay15 x)
      (k0_pay16 y) w2 b2 (ix2 p e)
      = token (x (ix3 0 0 p)) (y (ix3 0 0 p)) w b g s w2 b2 e := by
  pointwise [k0_pay17, k0_pay16, k0_pay15, k0_pay14, k0_pay13, k0_pay12, k0_pay11, k0_pay7]
  simp only [moment_row0, moment_row1, moment_bias, moment_rows, moment_row0_bias, moment_row1_bias, centred_row0,
    centred_row1, centred_bias]
  rfl

section

variable (m : (ℓ : Loc nD τ sig) → Buf (Elt Ideal) ℓ)

/-- Token `r` of the flat result, token `r % 8192` of row `r / 8192` of the arguments, at output column `e`. -/
def flatAt (c : Dev nD) (r : Fin 32768) (e : Fin 768) : EReal :=
  token (m ((c.tc : Thread nD τ).loc main_arg0) (ix2 ⟨r.val / 8192, by omega⟩ ⟨r.val % 8192, by omega⟩))
    (m ((c.tc : Thread nD τ).loc main_arg1) (ix2 ⟨r.val / 8192, by omega⟩ ⟨r.val % 8192, by omega⟩))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) e

/-- The flat result, all tokens and columns. -/
def flat (c : Dev nD) (i : S32768x768.Idx) : EReal := flatAt m c (i 0) (i 1)

/-- The windows' block indices at a grid point. -/
theorem index_at : ∀ t : Fin cfg0.N, win0_0.index t = ![t.val, 0, 0] ∧ win0_1.index t = ![t.val, 0, 0]
    ∧ win0_2.index t = ![0, 0] ∧ win0_3.index t = ![0] ∧ win0_4.index t = ![0] ∧ win0_5.index t = ![0]
    ∧ win0_6.index t = ![0, 0] ∧ win0_7.index t = ![0] ∧ win0_8.index t = ![t.val, 0] := by
  decide +kernel

/-- An array of four rows of 8192 tokens, read as eight rows of 4096, at one token. -/
theorem rows_apply (f : IVec S4x8192 32) (q : Fin 8) (p : Fin 4096) (r : Fin 32768) (h : r.val = q.val * 4096 + p.val) :
    shapeCast S8x1x4096 f shapeCasts_S4x8192_S8x1x4096 (ix3 q (0 : Fin 1) p)
      = f (ix2 ⟨r.val / 8192, by omega⟩ ⟨r.val % 8192, by omega⟩) := by
  pointwise
  have hr : ∀ h, (⟨q.val / 2, h⟩ : Fin 4) = ⟨r.val / 8192, by omega⟩ := fun _ => Fin.ext (by simp only; omega)
  have hl : ∀ h, (⟨q.val % 2 * 4096 + p.val, h⟩ : Fin 8192) = ⟨r.val % 8192, by omega⟩ :=
    fun _ => Fin.ext (by simp only; omega)
  rw [hr, hl]

/-- The first coordinates as the grid reads them: eight rows of 4096 tokens. -/
theorem entry_x (c : Dev nD) : V m c main_v0
    = shapeCast S8x1x4096 (m ((c.tc : Thread nD τ).loc main_arg0)) shapeCasts_S4x8192_S8x1x4096 := by
  show StableHlo.after hostOps0 (fun b => m (c, b)) (Proc.devRef .tc _) = _
  after_results
  rfl

/-- Where a grid point's block of the first coordinates lies. -/
theorem place_x (t : Fin cfg0.N) (p : Fin 4096) (ht : t.val < 8) :
    ((cfg0.win 0).blk t).view.emb (ix3 0 0 p) = (ix3 (⟨t.val, ht⟩ : Fin 8) (0 : Fin 1) p : S8x1x4096.Idx) := by
  have hi := (index_at t).1
  blk_ext [hi]

/-- The first coordinate of a block's token: the argument's at the token's row and place. -/
theorem block_x (c : Dev nD) (t : Fin cfg0.N) (p : Fin 4096) (r : Fin 32768) (h : r.val = t.val * 4096 + p.val) :
    iblk m c 0 t (ix3 0 0 p)
      = m ((c.tc : Thread nD τ).loc main_arg0) (ix2 ⟨r.val / 8192, by omega⟩ ⟨r.val % 8192, by omega⟩) := by
  have ht : t.val < 8 := lt_of_lt_of_eq t.isLt N_0
  unfold iblk
  refine (congrArg (V m c main_v0) (place_x t p ht)).trans ?_
  rw [entry_x]
  exact rows_apply _ ⟨t.val, ht⟩ p r h

/-- The second coordinates as the grid reads them: eight rows of 4096 tokens. -/
theorem entry_y (c : Dev nD) : V m c main_v1
    = shapeCast S8x1x4096 (m ((c.tc : Thread nD τ).loc main_arg1)) shapeCasts_S4x8192_S8x1x4096 := by
  show StableHlo.after hostOps0 (fun b => m (c, b)) (Proc.devRef .tc _) = _
  after_results
  rfl

/-- Where a grid point's block of the second coordinates lies. -/
theorem place_y (t : Fin cfg0.N) (p : Fin 4096) (ht : t.val < 8) :
    ((cfg0.win 1).blk t).view.emb (ix3 0 0 p) = (ix3 (⟨t.val, ht⟩ : Fin 8) (0 : Fin 1) p : S8x1x4096.Idx) := by
  have hi := (index_at t).2.1
  blk_ext [hi]

/-- The second coordinate of a block's token: the argument's at the token's row and place. -/
theorem block_y (c : Dev nD) (t : Fin cfg0.N) (p : Fin 4096) (r : Fin 32768) (h : r.val = t.val * 4096 + p.val) :
    iblk m c 1 t (ix3 0 0 p)
      = m ((c.tc : Thread nD τ).loc main_arg1) (ix2 ⟨r.val / 8192, by omega⟩ ⟨r.val % 8192, by omega⟩) := by
  have ht : t.val < 8 := lt_of_lt_of_eq t.isLt N_0
  unfold iblk
  refine (congrArg (V m c main_v1) (place_y t p ht)).trans ?_
  rw [entry_y]
  exact rows_apply _ ⟨t.val, ht⟩ p r h

/-- The block of the first layer's weights is the whole matrix. -/
theorem block_w (c : Dev nD) (t : Fin cfg0.N) : iblk m c 2 t = m ((c.tc : Thread nD τ).loc main_arg2) := by
  have hi := (index_at t).2.2.1
  funext y
  blk_ext [iblk, V, hi]

/-- The block of the first layer's bias is the whole vector. -/
theorem block_b (c : Dev nD) (t : Fin cfg0.N) : iblk m c 3 t = m ((c.tc : Thread nD τ).loc main_arg3) := by
  have hi := (index_at t).2.2.2.1
  funext y
  blk_ext [iblk, V, hi]

/-- The block of the layer norm's scale is the whole vector. -/
theorem block_g (c : Dev nD) (t : Fin cfg0.N) : iblk m c 4 t = m ((c.tc : Thread nD τ).loc main_arg4) := by
  have hi := (index_at t).2.2.2.2.1
  funext y
  blk_ext [iblk, V, hi]

/-- The block of the layer norm's shift is the whole vector. -/
theorem block_s (c : Dev nD) (t : Fin cfg0.N) : iblk m c 5 t = m ((c.tc : Thread nD τ).loc main_arg5) := by
  have hi := (index_at t).2.2.2.2.2.1
  funext y
  blk_ext [iblk, V, hi]

/-- The block of the second layer's weights is the whole matrix. -/
theorem block_w2 (c : Dev nD) (t : Fin cfg0.N) : iblk m c 6 t = m ((c.tc : Thread nD τ).loc main_arg6) := by
  have hi := (index_at t).2.2.2.2.2.2.1
  funext y
  blk_ext [iblk, V, hi]

/-- The block of the second layer's bias is the whole vector. -/
theorem block_b2 (c : Dev nD) (t : Fin cfg0.N) : iblk m c 7 t = m ((c.tc : Thread nD τ).loc main_arg7) := by
  have hi := (index_at t).2.2.2.2.2.2.2.1
  funext y
  blk_ext [iblk, V, hi]

/-- After the last grid point the flat result array holds every token's value. -/
theorem final (c : Dev nD) : (dats m 0 c).arrAt 8 cfg0.N = flat m c := by
  refine (dats m 0 c).arrAt_eq_of_covers 8 _ (by decide +kernel) fun t hf y => ?_
  rw [after0_8]
  unfold_out out0_8
  frame_out
  idx_vars y
  have hi := (index_at t).2.2.2.2.2.2.2.2
  have h0 : (((((cfg0.win 8).blk t).view.emb (ix2 y0 y1)) 0 : Fin 32768)).val = t.val * 4096 + y0.val := by
    blk_simp [hi]
  have h1 : (((((cfg0.win 8).blk t).view.emb (ix2 y0 y1)) 1 : Fin 768)) = y1 := by
    apply Fin.ext
    blk_simp [hi]
  refine (block_apply _ _ _ _ _ _ _ _ _ _).trans ?_
  rw [block_x m c t y0 _ h0, block_y m c t y0 _ h0, block_w, block_b, block_g, block_s, block_w2, block_b2]
  unfold flat flatAt
  rw [h1]

/-- The program's result is the flat array reshaped to rows of tokens. -/
theorem tail (c : Dev nD) : Pipeline.afterTail₀ cfgs (dats m) 0 (V0 m) [hostOps1] c main_v3
    = shapeCast S4x8192x768 (flat m c) shapeCasts_S32768x768_S4x8192x768 := by
  unfold Pipeline.afterTail₀
  simp only [hostOps1, List.flatten_cons, List.flatten_nil, List.append_nil, StableHlo.after_cons, StableHlo.after_nil]
  rw [StableHlo.reshape_result]
  have h : Pipeline.withArrays (cfgs 0).spec c (V0 m c) (fun w => (dats m 0 c).arrAt w (cfgs 0).N) (Proc.devRef .tc main_v2)
      = flat m c := (Pipeline.withArrays_arr (cfgs 0).spec (by decide) c (V0 m c) _ 8).trans (final m c)
  rw [h]
  rfl

/-- The program's result at row `b`, token `l` of the row and output column `e`. -/
theorem result_apply (c : Dev nD) (b : Fin 4) (l : Fin 8192) (e : Fin 768) :
    shapeCast S4x8192x768 (flat m c) shapeCasts_S32768x768_S4x8192x768 (ix3 b l e)
      = token (m ((c.tc : Thread nD τ).loc main_arg0) (ix2 b l)) (m ((c.tc : Thread nD τ).loc main_arg1) (ix2 b l))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) e := by
  have hb : ∀ h, (⟨(b.val * 8192 + l.val) / 8192, h⟩ : Fin 4) = b := fun h => Fin.ext (by simp only; omega)
  have hl : ∀ h, (⟨(b.val * 8192 + l.val) % 8192, h⟩ : Fin 8192) = l := fun h => Fin.ext (by simp only; omega)
  pointwise [flat, flatAt]
  rw [hb, hl]

end

end Cert.KernelIdeal.Block

end
-- ==== Proof.Finite.lean ====
/-
  The precondition read back: every entry of the first layer's weights, of its bias and of the layer norm's scale is a
  real number.
-/
module

public import proofs.«01_k».proof.Pre_finite_params
public import Idealize.ShloMosaic.PureOps.Ideal
public import Idealize.ShloMosaic.Lib.Pointwise
public import Idealize.ShloMosaic.Lib.ReduceAll

@[expose] public section

noncomputable section

namespace Cert.Finite

open Cert.Pre_finite_params Idealize.ShloMosaic

/-- The shape relations the precondition's operations take. -/
theorem facts : Cert.Pre_finite_params.Facts where
  bcast_S_S2x256 := by decide
  reducesTo_S2x256_S_d0_1 := by decide
  h_S_ := by decide
  bcast_S_S256 := by decide
  reducesTo_S256_S_d0 := by decide

/-- The bound that the precondition compares with is the greatest extended real. -/
theorem bound : (FloatOps.ofBits FTy.f32 0x7F800000#32 : Ideal .f32) = (⊤ : EReal) := by
  simp [FloatOps.ofBits, Ideal.ofBits, Ideal.ieee]

/-- A value whose absolute value lies below the greatest extended real is neither infinity. -/
theorem of_below (x : EReal) (h : Ideal.cmp .olt (max x (-x)) ⊤ = 1#1) : x ≠ ⊤ ∧ x ≠ ⊥ := by
  have hlt : max x (-x) < ⊤ := by
    by_contra hn
    simp [Ideal.cmp, hn] at h
  constructor
  · rintro rfl
    simp at hlt
  · rintro rfl
    simp at hlt

variable [Cert.Pre_finite_params.Facts]

/-- Where the precondition holds, the three arrays it names have real entries. -/
theorem entries (x y : IVec S4x8192 32) (w : FVec Ideal S2x256 .f32) (b g s : FVec Ideal S256 .f32)
    (w2 : FVec Ideal S256x768 .f32) (b2 : FVec Ideal S768 .f32) (h : fn x y w b g s w2 b2 = fun _ => 1#1) :
    (∀ r k, (w (ix2 r k) : EReal) ≠ ⊤ ∧ (w (ix2 r k) : EReal) ≠ ⊥)
      ∧ (∀ k, (b (ix1 k) : EReal) ≠ ⊤ ∧ (b (ix1 k) : EReal) ≠ ⊥)
      ∧ ∀ k, (g (ix1 k) : EReal) ≠ ⊤ ∧ (g (ix1 k) : EReal) ≠ ⊥ := by
  have e := congrFun h (fun a => a.elim0)
  unfold fn at e
  obtain ⟨e, eg⟩ := IntOp.andi_eq_one.1 e
  obtain ⟨ew, eb⟩ := IntOp.andi_eq_one.1 e
  haveI : Subsingleton S_.Idx := ⟨fun i j => funext fun a => a.elim0⟩
  refine ⟨fun r k => ?_, fun k => ?_, fun k => ?_⟩
  · have := Host.reduce_andi_all _ _ _ _ _ ew (ix2 r k)
    exact of_below _ (bound ▸ this)
  · have := Host.reduce_andi_all _ _ _ _ _ eb (ix1 k)
    exact of_below _ (bound ▸ this)
  · have := Host.reduce_andi_all _ _ _ _ _ eg (ix1 k)
    exact of_below _ (bound ▸ this)

end Cert.Finite

end
-- ==== Proof.lean ====
/-
  The claim: the frames, the idealization, and the equality of the kernel's result with the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Hidden
public import proofs.«01_k».proof.Proof.Ref
public import proofs.«01_k».proof.Proof.Block
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were and every counter at zero. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The kernel runs, leaves its result at the flat array reshaped, and its arguments as they were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v3)
          = shapeCast Cert.KernelIdeal.S4x8192x768 (Cert.KernelIdeal.Block.flat m c)
              Cert.KernelIdeal.Facts₀.shapeCasts_S32768x768_S4x8192x768) :=
  (θ_run Cert.KernelIdeal.defs _ _).mono
    (fun r h c => ((h c).2 Cert.KernelIdeal.main_v3 (by decide)).trans (Cert.KernelIdeal.Block.tail m c))
    (Cert.KernelIdeal.Gen.run_main m g)

/-- On equal arguments the reference's result is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    [Cert.Pre_finite_params.Facts] (hpre : Cert.Pre_KernelIdeal_finite_params m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    Cert.ReferenceIdeal.Value.res_main_v44 m' c
      = shapeCast Cert.KernelIdeal.S4x8192x768 (Cert.KernelIdeal.Block.flat m c)
          Cert.KernelIdeal.Facts₀.shapeCasts_S32768x768_S4x8192x768 := by
  funext i
  idx_vars i
  obtain ⟨hw, hb, hg⟩ := Finite.entries _ _ _ _ _ _ _ _ (hpre c)
  refine (Cert.ReferenceIdeal.Read.result_apply m' c i0 i1 i2).trans ?_
  refine Eq.trans ?_ (Cert.KernelIdeal.Block.result_apply m c i0 i1 i2).symm
  rw [h0, h1, h2, h3, h4, h5, h6, h7]
  unfold Cert.KernelIdeal.Block.token
  refine congrArg (· + _) (Finset.sum_congr rfl fun d _ => congrArg (· * _) ?_)
  exact (Hidden.kernel_eq_reference _ _ _ _ _ _ _ d (hw 0) (hw 1) hb hg).symm

/-- Everything claimed. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g,
    fun m g _ => Cert.KernelIdeal.Gen.frame m g, reference_frame, fun m g _ => reference_frame m g trivial, trivial,
    fun m g m' g' hpre hagree =>
      haveI := Cert.Finite.facts
      ⟨fun c => shapeCast Cert.KernelIdeal.S4x8192x768 (Cert.KernelIdeal.Block.flat m c)
          Cert.KernelIdeal.Facts₀.shapeCasts_S32768x768_S4x8192x768,
        (θ_run Cert.KernelIdeal.defs _ _).mono (fun _ h c => ⟨h.1 c, h.2 c⟩)
          (θ_run_and (kernel_run m g) (Cert.KernelIdeal.Gen.unchanged m g)),
        (θ_run Cert.ReferenceIdeal.defs _ _).mono
          (fun _ h c => ⟨(h c).1.trans (by
            obtain ⟨h0, h1, h2, h3, h4, h5, h6, h7⟩ := hagree c
            exact results m m' hpre c h0 h1 h2 h3 h4 h5 h6 h7), (h c).2⟩)
          (Cert.ReferenceIdeal.Value.run m' g')⟩⟩

end Cert.Proof

end
